-- ==== Defs.lean ====
def Pre_Kernel [hPre_swap_Kernel : Cert.Pre_swap_Kernel.Facts] (m : (ℓ : Loc Cert.Kernel.nD Cert.Kernel.τ Cert.Kernel.sig) → Buf (Elt Bits) ℓ) : Prop :=
  ∀ c : Dev Cert.Kernel.nD,
    (Cert.Pre_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stay_Kernel [hPre_stay_Kernel : Cert.Pre_stay_Kernel.Facts] (m : (ℓ : Loc Cert.Kernel.nD Cert.Kernel.τ Cert.Kernel.sig) → Buf (Elt Bits) ℓ) : Prop :=
  ∀ c : Dev Cert.Kernel.nD,
    (Cert.Pre_stay_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swap_Kernel : Cert.Pre_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stay_Kernel [hPre_stay_Kernel : Cert.Pre_stay_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stay_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swap_ReferenceIdeal [hPre_swap_ReferenceIdeal : Cert.Pre_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stay_ReferenceIdeal [hPre_stay_ReferenceIdeal : Cert.Pre_stay_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stay_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_swap_ReferenceIdeal : Cert.Pre_swap_ReferenceIdeal.Facts] (m : (ℓ : Loc Cert.Reference.nD Cert.Reference.τ Cert.Reference.sig) → Buf (Elt Bits) ℓ) : Prop :=
  ∀ c : Dev Cert.Reference.nD,
    (Cert.Pre_swap_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_stay_ReferenceIdeal [hPre_stay_ReferenceIdeal : Cert.Pre_stay_ReferenceIdeal.Facts] (m : (ℓ : Loc Cert.Reference.nD Cert.Reference.τ Cert.Reference.sig) → Buf (Elt Bits) ℓ) : Prop :=
  ∀ c : Dev Cert.Reference.nD,
    (Cert.Pre_stay_ReferenceIdeal.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_none (m : (ℓ : Loc Cert.Reference.nD Cert.Reference.τ Cert.Reference.sig) → Buf (Elt Bits) ℓ) : Prop :=
  True

def quiescent_Kernel [hKernel : Cert.Kernel.Facts] [hPre_swap_Kernel : Cert.Pre_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stay_Kernel [hKernel : Cert.Kernel.Facts] [hPre_stay_Kernel : Cert.Pre_stay_Kernel.Facts] : Prop :=
  ∀ (m : (ℓ : Loc Cert.Kernel.nD Cert.Kernel.τ Cert.Kernel.sig) → Buf (Elt Bits) ℓ) (g : Dev Cert.Kernel.nD → PrngReg), Pre_Kernel_stay_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stay_Kernel [hKernelIdeal : Cert.KernelIdeal.Facts] [hPre_stay_Kernel : Cert.Pre_stay_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stay_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swap_ReferenceIdeal [hReferenceIdeal : Cert.ReferenceIdeal.Facts] [hPre_swap_ReferenceIdeal : Cert.Pre_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stay_ReferenceIdeal [hReferenceIdeal : Cert.ReferenceIdeal.Facts] [hPre_stay_ReferenceIdeal : Cert.Pre_stay_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stay_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_swap_ReferenceIdeal : Cert.Pre_swap_ReferenceIdeal.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_stay_ReferenceIdeal [hReference : Cert.Reference.Facts] [hPre_stay_ReferenceIdeal : Cert.Pre_stay_ReferenceIdeal.Facts] : Prop :=
  ∀ (m : (ℓ : Loc Cert.Reference.nD Cert.Reference.τ Cert.Reference.sig) → Buf (Elt Bits) ℓ) (g : Dev Cert.Reference.nD → PrngReg), Pre_Reference_stay_ReferenceIdeal m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_none [hReference : Cert.Reference.Facts] : Prop :=
  ∀ (m : (ℓ : Loc Cert.Reference.nD Cert.Reference.τ Cert.Reference.sig) → Buf (Elt Bits) ℓ) (g : Dev Cert.Reference.nD → PrngReg), Pre_Reference_none m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stay_Kernel [hKernelIdeal : Cert.KernelIdeal.Facts] [hReferenceIdeal : Cert.ReferenceIdeal.Facts] [hPre_stay_Kernel : Cert.Pre_stay_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stay_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] [hPre_swap_Kernel : Cert.Pre_swap_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨3, ![1, 512, 512]⟩ ⟨3, ![2, 512, 512]⟩ (Layout.meshBlock [2, 2] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 512, 512]⟩ ⟨3, ![2, 512, 512]⟩ (Layout.meshBlock [2, 2] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_stay_Kernel [hKernel : Cert.Kernel.Facts] [hReference : Cert.Reference.Facts] [hPre_stay_Kernel : Cert.Pre_stay_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_stay_Kernel m →
    (∀ c : Dev Cert.Kernel.nD,
      m ((c.tc : Thread Cert.Kernel.nD Cert.Kernel.τ).loc Cert.Kernel.main_arg0) = Layout.blockN ⟨3, ![1, 512, 512]⟩ ⟨3, ![2, 512, 512]⟩ (Layout.meshBlock [2, 2] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 512, 512]⟩ ⟨3, ![2, 512, 512]⟩ (Layout.meshBlock [2, 2] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_swap_Kernel : Cert.Pre_swap_Kernel.Facts) (hPre_stay_Kernel : Cert.Pre_stay_Kernel.Facts) (hPre_swap_ReferenceIdeal : Cert.Pre_swap_ReferenceIdeal.Facts) (hPre_stay_ReferenceIdeal : Cert.Pre_stay_ReferenceIdeal.Facts),
    quiescent_Kernel (hKernel := hKernel) (hPre_swap_Kernel := hPre_swap_Kernel)
    ∧ quiescent_Kernel_pre_stay_Kernel (hKernel := hKernel) (hPre_stay_Kernel := hPre_stay_Kernel)
    ∧ quiescent_KernelIdeal (hKernelIdeal := hKernelIdeal) (hPre_swap_Kernel := hPre_swap_Kernel)
    ∧ quiescent_KernelIdeal_pre_stay_Kernel (hKernelIdeal := hKernelIdeal) (hPre_stay_Kernel := hPre_stay_Kernel)
    ∧ quiescent_ReferenceIdeal (hReferenceIdeal := hReferenceIdeal)
    ∧ quiescent_ReferenceIdeal_pre_swap_ReferenceIdeal (hReferenceIdeal := hReferenceIdeal) (hPre_swap_ReferenceIdeal := hPre_swap_ReferenceIdeal)
    ∧ quiescent_ReferenceIdeal_pre_stay_ReferenceIdeal (hReferenceIdeal := hReferenceIdeal) (hPre_stay_ReferenceIdeal := hPre_stay_ReferenceIdeal)
    ∧ quiescent_Reference (hReference := hReference) (hPre_swap_ReferenceIdeal := hPre_swap_ReferenceIdeal)
    ∧ quiescent_Reference_pre_stay_ReferenceIdeal (hReference := hReference) (hPre_stay_ReferenceIdeal := hPre_stay_ReferenceIdeal)
    ∧ quiescent_Reference_pre_none (hReference := hReference)
    ∧ preserves_Kernel_KernelIdeal
    ∧ algebraic_KernelIdeal_ReferenceIdeal (hKernelIdeal := hKernelIdeal) (hReferenceIdeal := hReferenceIdeal) (hPre_swap_Kernel := hPre_swap_Kernel)
    ∧ algebraic_KernelIdeal_ReferenceIdeal_pre_stay_Kernel (hKernelIdeal := hKernelIdeal) (hReferenceIdeal := hReferenceIdeal) (hPre_stay_Kernel := hPre_stay_Kernel)
    ∧ bitexact_Kernel_Reference (hKernel := hKernel) (hReference := hReference) (hPre_swap_Kernel := hPre_swap_Kernel)
    ∧ bitexact_Kernel_Reference_pre_stay_Kernel (hKernel := hKernel) (hReference := hReference) (hPre_stay_Kernel := hPre_stay_Kernel)
-- ==== Pre_stay_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_stay_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swap_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swap_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x512x512 : Shape := ⟨3, ![1, 512, 512]⟩
abbrev S2 : Shape := ⟨1, ![2]⟩
abbrev S_ : Shape := ⟨0, ![]⟩
abbrev S1 : Shape := ⟨1, ![1]⟩

abbrev nBuf : Space → Nat
  | .hbm => 3
  | .vmem => 1
  | .smem => 1
  | _ => 0

abbrev bufTy : (tb : Table) → Fin (tcTables nBuf tb) → BufTy
  | .hbm, ⟨0, _⟩ => ⟨S1x512x512, .f32⟩
  | .hbm, ⟨1, _⟩ => ⟨S2, .i32⟩
  | .hbm, ⟨2, _⟩ => ⟨S1x512x512, .f32⟩
  | .local _ .vmem, ⟨0, _⟩ => ⟨S1x512x512, .f32⟩
  | .local _ .smem, ⟨0, _⟩ => ⟨S2, .i32⟩
  | _, _ => ⟨S1x512x512, .f32⟩

abbrev bufScoped : (cs : CoreSpace) → Fin (nBuf (.core cs)) → Bool
  | .vmem, ⟨0, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : Index := Scalar.indexCast v5
  ![v6.toNat]
def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v10 : BitVec 32 := Scalar.muli v2 c2_i32_4
  let v11 : BitVec 32 := Scalar.addi c0_i32 v10
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_2 v5
  let c1_i32_5 : BitVec 32 := 1#32
  let v12 : BitVec 32 := Scalar.muli v9 c1_i32_5
  let v13 : BitVec 32 := Scalar.addi v11 v12
  v13.toNat
def k0_dev2 (d0 : Dev nD) (v7 : BitVec 32) : Nat :=
  let c0_i32_10 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_9 : BitVec 32 := 2#32
  let v20 : BitVec 32 := Scalar.muli v2 c2_i32_9
  let v21 : BitVec 32 := Scalar.addi c0_i32_10 v20
  let c1_i32_11 : BitVec 32 := 1#32
  let v22 : BitVec 32 := Scalar.muli v7 c1_i32_11
  let v23 : BitVec 32 := Scalar.addi v21 v22
  v23.toNat
def k0_cond2 (d0 : Dev nD) (v7 : BitVec 32) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v17 : BitVec 1 := Scalar.cmpi .ne v7 v5
  let v18 : BitVec 32 := Scalar.extui v17
  let c0_i32_8 : BitVec 32 := 0#32
  let v19 : BitVec 1 := Scalar.cmpi .ne v18 c0_i32_8
  v19

def k0_chk1 (d0 : Dev nD) (v7 : BitVec 32) : Prop :=
  (∀ (k0_h2 : k0_cond2 d0 v7 = 1#1), (k0_dev2 d0 v7) < nD)
theorem k0_dev2_lt : ∀ (d0 : Dev nD) (v7 : BitVec 32) (k0_hw1 : k0_chk1 d0 v7), ∀ (k0_h2 : k0_cond2 d0 v7 = 1#1), (k0_dev2 d0 v7) < nD := fun d0 v7 k0_hw1 k0_h2 => k0_hw1 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Words.lean ====
/-
The two permutations of two columns as words, what the reference's operations make of them, and the preconditions
read as saying which of the two a device was given. Sorting the words of a permutation that is its own inverse gives
the permutation back, and the gather takes column `k` of the result from the column the permutation names.
-/
module

public import proofs.«01_k».proof.Proof.Gen.ReferenceIdeal
public import proofs.«01_k».proof.Proof.Gen.Pre_swap_Kernel
public import proofs.«01_k».proof.Proof.Gen.Pre_stay_Kernel

@[expose] public section

noncomputable section

namespace Cert.Words

open Cert.ReferenceIdeal Cert.ReferenceIdeal.Gen Idealize.ShloMosaic

variable {F : FTy → Type} [FloatOps F]

/-! ## The reference's operations -/

/-- The column that `b`'s permutation sends column `k` to: the other one in the exchange, itself otherwise. -/
def col (b : Bool) (k : Fin 2) : Fin 2 := bif b then 1 - k else k

/-- The permutation as the program is given it: one word per column. -/
def words (b : Bool) : IVec S2 32 := fun i => BitVec.ofNat 32 (col b (show Fin 2 from i 0)).val

/-- Sorted with the column numbers alongside, the words leave the permutation itself: each of the two undoes itself. -/
theorem sorted_words (b : Bool) : (Host.sort2 S2 0 comparator_i32_i32_d0 (words b) (iotaInDim S2 32 0)).2 = words b := by
  cases b <;> decide

/-- No word is negative, so none is moved up by the number of columns. -/
theorem wrapped_words (b : Bool) :
    select (cmpi .slt (words b) (broadcastInDim S2 ![] bcast_S_S2 (constantI S_ 32 0#32)))
      (addi (words b) (broadcastInDim S2 ![] bcast_S_S2 (constantI S_ 32 2#32))) (words b) = words b := by
  cases b <;> decide

/-- The index read for `j`: column `j 0` replaced by the one the permutation names. -/
def source (b : Bool) (j : S2x512x512.Idx) : S2x512x512.Idx := j.along 0 (col b (show Fin 2 from j 0))

theorem clamped (b : Bool) (k : Fin 2) : min (BitVec.ofNat 32 (col b k).val).toInt.toNat 1 = (col b k).val := by
  revert b k; decide

theorem gather_words {α : Type} (b : Bool) (x : S2x512x512.Idx → α) :
    Host.gather gather_S2x512x512_S2x1_S2x512x512_12_0_n_n_0_1_1512512 x (broadcastInDim S2x1 ![0] bcast_S2_S2x1_0 (words b))
      = fun j => x (source b j) := by
  funext j
  refine congrArg x (funext fun a => Fin.ext ?_)
  fin_cases a
  · exact clamped b (show Fin 2 from j 0)
  · exact Nat.zero_add _
  · exact Nat.zero_add _

/-- The reference's operations together, on the words of a permutation: each block is the one the permutation names. -/
theorem permuted_words {α : Type} (b : Bool) (x : S2x512x512.Idx → α) (pi : IVec S2 32) (h : pi = words b) :
    Host.gather gather_S2x512x512_S2x1_S2x512x512_12_0_n_n_0_1_1512512 x
      (broadcastInDim S2x1 ![0] bcast_S2_S2x1_0
        (select
          (cmpi .slt (Host.sort2 S2 0 comparator_i32_i32_d0 pi (iotaInDim S2 32 0)).2
            (broadcastInDim S2 ![] bcast_S_S2 (constantI S_ 32 0#32)))
          (addi (Host.sort2 S2 0 comparator_i32_i32_d0 pi (iotaInDim S2 32 0)).2
            (broadcastInDim S2 ![] bcast_S_S2 (constantI S_ 32 2#32)))
          (Host.sort2 S2 0 comparator_i32_i32_d0 pi (iotaInDim S2 32 0)).2))
      = fun j => x (source b j) := by
  rw [h, sorted_words, wrapped_words, gather_words]

/-! ## The preconditions -/

/-- The place of column `k`'s word. -/
def spot (k : Fin 2) : S2.Idx := fun a => ⟨k.val, by fin_cases a; exact k.isLt⟩

theorem eq_spot (i : S2.Idx) : i = spot (show Fin 2 from i 0) := by
  funext a
  fin_cases a
  rfl

/-- Both comparisons hold where their conjunction does. -/
theorem both_equal {p q u v : BitVec 32} (h : IntOp.andi (IntOp.cmpi .eq p u) (IntOp.cmpi .eq q v) = 1#1) : p = u ∧ q = v := by
  have key : ∀ s t : Bool, IntOp.andi (BitVec.ofBool s) (BitVec.ofBool t) = 1#1 → s = true ∧ t = true := by decide
  obtain ⟨hp, hq⟩ := key (p == u) (q == v) h
  exact ⟨eq_of_beq hp, eq_of_beq hq⟩

/-- A permutation given by its two words. -/
theorem words_of_two (b : Bool) (pi : IVec S2 32) (h0 : pi (spot 0) = words b (spot 0)) (h1 : pi (spot 1) = words b (spot 1)) :
    pi = words b := by
  funext i
  rw [eq_spot i]
  rcases (show Fin 2 from i 0) with ⟨_ | _ | n, hn⟩
  · exact h0
  · exact h1
  · omega

theorem words_of_swap (x : FVec F Cert.Pre_swap_Kernel.S1x512x512 .f32) (pi : IVec S2 32)
    (h : Cert.Pre_swap_Kernel.fn (F := F) x pi = fun _ => 1#1) : pi = words true := by
  have e : IntOp.andi (IntOp.cmpi .eq (pi (spot 0)) 1#32) (IntOp.cmpi .eq (pi (spot 1)) 0#32) = 1#1 := by
    refine Eq.trans ?_ (congrFun h fun a => a.elim0)
    refine congrArg₂ (fun p q => IntOp.andi (IntOp.cmpi .eq p 1#32) (IntOp.cmpi .eq q 0#32)) ?_ ?_ <;>
      exact congrArg pi (funext fun a => by fin_cases a; rfl)
  exact words_of_two true pi (both_equal e).1 (both_equal e).2

theorem words_of_stay (x : FVec F Cert.Pre_stay_Kernel.S1x512x512 .f32) (pi : IVec S2 32)
    (h : Cert.Pre_stay_Kernel.fn (F := F) x pi = fun _ => 1#1) : pi = words false := by
  have e : IntOp.andi (IntOp.cmpi .eq (pi (spot 0)) 0#32) (IntOp.cmpi .eq (pi (spot 1)) 1#32) = 1#1 := by
    refine Eq.trans ?_ (congrFun h fun a => a.elim0)
    refine congrArg₂ (fun p q => IntOp.andi (IntOp.cmpi .eq p 0#32) (IntOp.cmpi .eq q 1#32)) ?_ ?_ <;>
      exact congrArg pi (funext fun a => by fin_cases a; rfl)
  exact words_of_two false pi (both_equal e).1 (both_equal e).2

end Cert.Words

end
-- ==== Proof.KernelIdealPlan.lean ====
/-
The exchange between the two devices of each mesh row, as a plan over semaphore cells.

Device `c` of the 2 × 2 mesh sits at `(c / 2, c % 2)`. The kernel reads one word of the permutation, tells the other
device of its row that it has entered (the barrier semaphore), waits to be told the same, and then places its block:
on itself by a local copy when the word is its own column, on the other device of the row by a transfer otherwise.
The flag `b` says which of the two permutations of two columns is meant: `true` the exchange, `false` the identity.
Under `true` the entry notice carries the sender's result buffer, so that the other device may write it; under
`false` it carries nothing. This file states the plan, what each device owes when the kernel starts, and the order
in which the waits may happen.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg) (b : Bool)

/-! ## Devices and the word each reads -/

/-- The other device of `c`'s row. -/
def mate (c : Dev nD) : Dev nD :=
  ⟨2 * (c.val / 2) + (1 - c.val % 2), by have h := c.isLt; simp only [nD] at h ⊢; omega⟩

theorem mate_mate (c : Dev nD) : mate (mate c) = c := by revert c; decide

/-- The row exchange as a permutation of the devices. -/
def rowSwap : Dev nD ≃ Dev nD := ⟨mate, mate, mate_mate, mate_mate⟩

theorem mate_eq_iff {d c : Dev nD} : mate d = c ↔ d = mate c :=
  ⟨fun h => by rw [← h, mate_mate], fun h => by rw [h, mate_mate]⟩

/-- Where `c`'s block goes, which is also where the block `c` ends with comes from. -/
def dest (c : Dev nD) : Dev nD := bif b then mate c else c

/-- The column `c` reads from the permutation. -/
def colWord (c : Dev nD) : BitVec 32 := BitVec.ofNat 32 ((dest b c).val % 2)

/-- The index of `c`'s own word in the permutation. -/
def myIdx (c : Dev nD) : S2.Idx := fun a => ⟨c.val % 2, by fin_cases a; exact Nat.mod_lt _ (by decide)⟩

/-- Each device's copy of the permutation sends it to `dest b c`. -/
def Routed : Prop := ∀ c : Dev nD, (m ((c : Thread nD τ).loc main_arg1) : S2.Idx → BitVec 32) (myIdx c) = colWord b c

theorem dev1_mate (c : Dev nD) : (⟨k0_dev1 c, k0_dev1_lt c⟩ : Dev nD) = mate c :=
  Fin.ext ((k0_dev1_eq c).trans (by revert c; decide))

theorem chk_col (c : Dev nD) : k0_chk1 c (colWord b c) := by revert b c; decide +kernel

theorem cond_true (c : Dev nD) : k0_cond2 c (colWord true c) = 1#1 := by revert c; decide +kernel
theorem cond_false (c : Dev nD) : ¬ k0_cond2 c (colWord false c) = 1#1 := by revert c; decide +kernel

theorem dev2_mate (c : Dev nD) (h : k0_dev2 c (colWord true c) < nD) : (⟨k0_dev2 c (colWord true c), h⟩ : Dev nD) = mate c := by
  apply Fin.ext; revert c; decide +kernel

/-! ## Buffers and cells -/

abbrev piM : Memref sig .tc .smem S2 .i32 := Memref.whole cc0_stg0_0
abbrev xM : Memref sig .tc .vmem S1x512x512 .f32 := Memref.whole cc0_stg1_0
abbrev oM : Memref sig .tc .hbm S1x512x512 .f32 := Memref.whole main_v1

abbrev barS : Sem sig := (SemArray.scalar (sig.barrier 0 rfl) : Sems sig S_).sem

/-- The four cells of a device: its barrier, and what its outgoing, incoming and local transfers complete on. -/
abbrev csem : Fin 4 → SemLoc sig := fun
  | 0 => .reg barS | 1 => .dma cc0_scratch0.sem | 2 => .dma cc0_scratch1.sem | 3 => .dma cc0_scratch2.sem
abbrev kcell (ck : Dev nD × Fin 4) : GSem nD τ sig := ((ck.1 : Thread nD τ), csem ck.2)

theorem csem_injective : Function.Injective csem := by decide

theorem kcell_injective : Function.Injective (kcell : Dev nD × Fin 4 → GSem nD τ sig) := by
  rintro ⟨c, k⟩ ⟨c', k'⟩ h
  have hc : c = c' := congrArg (fun g : GSem nD τ sig => g.1.1) h
  have hk : k = k' := csem_injective (congrArg Prod.snd h)
  rw [hc, hk]

theorem kcell_eq_iff {c c' : Dev nD} {k : Fin 4} : kcell (c, k) = kcell (c', k) ↔ c = c' :=
  ⟨fun h => (Prod.mk.inj (kcell_injective h)).1, fun h => by rw [h]⟩

/-- The bytes of one block, as a completed transfer counts them. -/
abbrev N : ℕ := (oM : Memref sig .tc .hbm S1x512x512 .f32).view.dmaCredit
theorem N_pos : 0 < N := View.dmaCredit_pos _ (by decide)

/-! ## Contents -/

/-- The staged copy of the permutation and of `c`'s block. -/
def piStg (c : Dev nD) : (cc0_stg0_0 : Ref sig .tc).ty.Contents (Elt F) :=
  (win0_0.blk (0 : Fin 1)).view.read (Elt F) (m ((c : Thread nD τ).loc main_arg1))
def xStg (c : Dev nD) : (cc0_stg1_0 : Ref sig .tc).ty.Contents (Elt F) :=
  (win0_1.blk (0 : Fin 1)).view.read (Elt F) (m ((c : Thread nD τ).loc main_arg0))

omit [FloatOps F] in
theorem xStg_eq (c : Dev nD) : xStg m c = m ((c : Thread nD τ).loc main_arg0) := by
  funext i
  show m ((c : Thread nD τ).loc main_arg0) _ = m ((c : Thread nD τ).loc main_arg0) i
  refine congrArg (m ((c : Thread nD τ).loc main_arg0)) (funext fun a => Fin.ext ?_)
  fin_cases a <;> exact (Nat.zero_add _).trans (Nat.one_mul _)

/-- The rectangle of the one word `c` reads, and that word. -/
abbrev wordRect (c : Dev nD) : Rect S2 := Rect.unit (s := S2) (k0_off1 c) S1.size (k0_off1_inb c)
abbrev wordOf (c : Dev nD) (f : (cc0_stg0_0 : Ref sig .tc).ty.Contents (Elt F)) : BitVec 32 :=
  (piM.access (wordRect c) : View sig .tc _ _ _).read (Elt F) f (Shape.Idx.first (s := S1) (numel1_S1.symm ▸ Nat.one_pos))

omit [FloatOps F] in
theorem wordOf_stg (h : Routed m b) (c : Dev nD) : wordOf c (piStg m c) = colWord b c := by
  refine Eq.trans ?_ (h c)
  show (m ((c : Thread nD τ).loc main_arg1) : S2.Idx → BitVec 32) _ = _
  refine congrArg _ (funext fun a => Fin.ext ?_)
  fin_cases a; fin_cases c <;> rfl

/-- The block written over the whole result buffer leaves exactly the block. -/
theorem write_block (c : Dev nD) (fd : Buf (Elt F) ((oM : Memref sig .tc .hbm S1x512x512 .f32).view.loc (c : Thread nD τ)))
    (fs : (cc0_stg1_0 : Ref sig .tc).ty.Contents (Elt F)) :
    (oM : Memref sig .tc .hbm S1x512x512 .f32).view.write (Elt F) fd ((xM : Memref sig .tc .vmem S1x512x512 .f32).view.read (Elt F) fs) Finset.univ = fs := by
  show (View.whole main_v1).write (Elt F) fd ((View.whole cc0_stg1_0).read (Elt F) fs) Finset.univ = fs
  rw [View.read_whole]; exact View.write_whole_univ _ _ _

/-- Device `c`'s result buffer, whole, at contents `f`; and its staged block. -/
def outPts (c : Dev nD) (f : (main_v1 : Ref sig .tc).ty.Contents (Elt F)) : sProp 𝕄 :=
  (oM : Memref sig .tc .hbm S1x512x512 .f32).view.loc (c : Thread nD τ) ↦[(oM : Memref sig .tc .hbm S1x512x512 .f32).view.set]{fullShare} f
def xPts (c : Dev nD) : sProp 𝕄 :=
  (xM : Memref sig .tc .vmem S1x512x512 .f32).view.loc (c : Thread nD τ) ↦[(xM : Memref sig .tc .vmem S1x512x512 .f32).view.set]{fullShare} xStg m c

omit [FloatOps F] in
instance outPts_storable (c : Dev nD) (f) : BI.Storable (upEmb : UEmb _ 𝕄) (outPts (F := F) c f) := by unfold outPts; infer_instance
omit [FloatOps F] in
instance xPts_storable (c : Dev nD) : BI.Storable (upEmb : UEmb _ 𝕄) (xPts (F := F) m c) := by unfold xPts; infer_instance

omit [FloatOps F] in
theorem outPts_eq (c : Dev nD) (f : (main_v1 : Ref sig .tc).ty.Contents (Elt F)) :
    outPts c f = (((c : Thread nD τ).loc main_v1) ↦{fullShare} f : sProp 𝕄) := by unfold outPts; rw [View.set_whole]
omit [FloatOps F] in
theorem xPts_eq (c : Dev nD) : xPts m c = (((c : Thread nD τ).loc cc0_stg1_0) ↦{fullShare} xStg m c : sProp 𝕄) := by
  unfold xPts; rw [View.set_whole]

/-! ## The plan -/

/-- The cells something lands on: the barrier always, the two transfer cells in the exchange, the copy's otherwise. -/
def live (k : Fin 4) : Bool := match k with
  | 0 => true | 1 => b | 2 => b | 3 => !b

/-- What lands on cell `k` of device `c`, and how much it counts. -/
def pay (c : Dev nD) (k : Fin 4) : sProp 𝕄 := match k with
  | 0 => bif b then iprop(∃ f, outPts (mate c) f) else iprop(emp)
  | 1 => xPts m c
  | 2 => outPts c (xStg m (mate c))
  | 3 => iprop(outPts c (xStg m c) ∗ xPts m c)
def amt (k : Fin 4) : ℕ := if k = 0 then 1 else N

theorem amt_pos (k : Fin 4) : 0 < amt k := by unfold amt; split; exacts [Nat.one_pos, N_pos]

instance pay_storable (c : Dev nD) (k : Fin 4) : BI.Storable (upEmb : UEmb _ 𝕄) (pay (F := F) m b c k) := by
  unfold pay
  split
  · cases b <;> dsimp only [cond] <;> infer_instance
  all_goals infer_instance

/-- Which of the four cells a semaphore is (one that is none of them counts as the last). -/
def roleOf (s : SemLoc sig) : Fin 4 := if s = csem 0 then 0 else if s = csem 1 then 1 else if s = csem 2 then 2 else 3
theorem roleOf_csem (k : Fin 4) : roleOf (csem k) = k := by revert k; decide

/-- One round on each live cell, nothing after it. -/
def plan : Rounds.Schedule (GSem nD τ sig) Unit 𝕄 where
  duties g r := if r = 0 ∧ live b (roleOf g.2) = true then {()} else ∅
  unitless _ := False
  amount g _ _ := amt (roleOf g.2)
  payload g _ _ := pay m b g.1.1 (roleOf g.2)
  amount_pos g _ _ _ := amt_pos _

instance plan_payload_storable (g : GSem nD τ sig) (r : ℕ) (d : Unit) : BI.Storable (upEmb : UEmb _ 𝕄) ((plan (F := F) m b).payload g r d) :=
  pay_storable m b _ _

variable {b} in
theorem duties_live (c : Dev nD) {k : Fin 4} (h : live b k = true) : (plan (F := F) m b).duties (kcell (c, k)) 0 = {()} := by
  dsimp only [plan]; exact if_pos ⟨rfl, by rw [roleOf_csem]; exact h⟩
variable {b} in
theorem mem_live (c : Dev nD) {k : Fin 4} (h : live b k = true) : () ∈ (plan (F := F) m b).duties (kcell (c, k)) 0 := by
  rw [duties_live m c h]; exact Finset.mem_singleton_self _
variable {b} in
theorem duties_dead (c : Dev nD) {k : Fin 4} (h : live b k = false) : ∀ r, 0 ≤ r → (plan (F := F) m b).duties (kcell (c, k)) r = ∅ := fun r _ => by
  dsimp only [plan]; exact if_neg fun hh => by rw [roleOf_csem, h] at hh; exact Bool.noConfusion hh.2
theorem duties_over (g : GSem nD τ sig) : ∀ r, 0 + 1 ≤ r → (plan (F := F) m b).duties g r = ∅ := fun r hr => by
  dsimp only [plan]; exact if_neg fun hh => by omega
theorem amount_at (c : Dev nD) (k : Fin 4) (u : Unit) : (plan (F := F) m b).amount (kcell (c, k)) 0 u = amt k := by
  dsimp only [plan]; rw [roleOf_csem]
theorem payload_at (c : Dev nD) (k : Fin 4) (u : Unit) : (plan (F := F) m b).payload (kcell (c, k)) 0 u = pay m b c k := by
  dsimp only [plan]; rw [roleOf_csem]
variable {b} in
theorem expect_live (c : Dev nD) {k : Fin 4} (h : live b k = true) : (plan (F := F) m b).expect (kcell (c, k)) 0 = amt k := by
  unfold Schedule.expect Schedule.amountOf; rw [duties_live m c h, Finset.sum_singleton, amount_at]
variable {b} in
theorem rest_live (c : Dev nD) {k : Fin 4} (h : live b k = true) :
    bigSep ((plan (F := F) m b).duties (kcell (c, k)) 0 \ ∅) (fun u => (plan (F := F) m b).payload (kcell (c, k)) 0 u) = pay m b c k := by
  rw [Finset.sdiff_empty, duties_live m c h, bigSep_singleton, payload_at]

/-! ## What each device owes at the start; the order of the waits -/

/-- What a device sends across its row: one block in the exchange, nothing otherwise. -/
def sent : ℕ := bif b then N else 0

/-- A device owes the other device of its row the block and the entry notice. -/
def owed (c : Dev nD) : CellTallies nD τ sig Unit :=
  tallyAt (kcell (mate c, 2)) () (sent b) + tallyAt (kcell (mate c, 0)) () 1

def L (g : GSem nD τ sig) : Finset Unit := if g.1.2 = .tc then {()} else ∅
/-- Staging, outgoing and local transfers are waited for first, then the barrier, then the incoming block. -/
def lv (g : GSem nD τ sig) (_ : Unit) : ℕ := if g.2 = csem 0 then 1 else if g.2 = csem 2 then 2 else 0
theorem L_of_ne (g : GSem nD τ sig) (h : g.1.2 ≠ .tc) : L g = ∅ := if_neg h
theorem mem_L (c : Dev nD) (s : SemLoc sig) : () ∈ L ((c : Thread nD τ), s) := by
  unfold L; rw [if_pos rfl]; exact Finset.mem_singleton_self _
theorem lv_bar (c : Dev nD) (u : Unit) : lv (kcell (c, 0)) u = 1 := if_pos rfl
theorem lv_recv (c : Dev nD) (u : Unit) : lv (kcell (c, 2)) u = 2 := by unfold lv; rw [if_neg (show csem 2 ≠ csem 0 by decide), if_pos rfl]

theorem pos_tallyAt {g g' : GSem nD τ sig} {u : Unit} {n : ℕ} (h : 0 < (tallyAt g () n : CellTallies nD τ sig Unit) g' u) : g' = g := by
  rw [tallyAt_apply] at h
  by_contra hn
  rw [if_neg (fun hh => hn hh.1)] at h
  exact Nat.lt_irrefl 0 h

theorem pos_owed {c : Dev nD} {g : GSem nD τ sig} {u : Unit} (h : 0 < owed b c g u) : g = kcell (mate c, 2) ∨ g = kcell (mate c, 0) := by
  unfold owed at h
  rw [Pi.add_apply, Finsupp.add_apply] at h
  rcases Nat.add_pos_iff_pos_or_pos.mp h with h1 | h1
  · exact .inl (pos_tallyAt h1)
  · exact .inr (pos_tallyAt h1)

omit [FloatOps F] in
/-- A wait on a staging semaphore comes before everything a device owes at the start, or after it owes nothing. -/
theorem mayWait_first (c : Dev nD) (s : SemLoc sig) (h0 : s ≠ csem 0) (h2 : s ≠ csem 2) (O : CellTallies nD τ sig Unit) (hO : O = owed b c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp]; exact mem_L _ _)
      (fun g u hg => by rcases pos_owed b hg with rfl | rfl <;> exact mem_L _ _)
      (fun p hp => by rw [Finset.mem_singleton.mp hp]; unfold lv; rw [if_neg h0, if_neg h2])
      (fun g u hg => by
        rcases pos_owed b hg with rfl | rfl
        · rw [lv_recv]; exact Nat.zero_lt_two
        · rw [lv_bar]; exact Nat.zero_lt_one)
  · rw [MayWait_zero]; iintro -; iempintro

omit [FloatOps F] in
/-- A wait on the barrier comes before the block still owed. -/
theorem mayWait_bar (c : Dev nD) : (levAts L lv : sProp 𝕄) ⊢ MayWait (c : Thread nD τ) (csem 0) () (tallyAt (kcell (mate c, 2)) () (sent b)) :=
  MayOwe.of_cut (L := L) (lev := lv) 1 (fun p hp => by rw [Finset.mem_singleton.mp hp]; exact mem_L _ _)
    (fun g u hg => by rw [pos_tallyAt hg]; exact mem_L _ _)
    (fun p hp => by rw [Finset.mem_singleton.mp hp]; exact (lv_bar c _).le)
    (fun g u hg => by rw [pos_tallyAt hg, lv_recv]; exact Nat.one_lt_two)

/-! ## What a device holds -/

/-- The standing record of every cell of the mesh. -/
def records (K : Dev nD × Fin 4 → ℕ) : sProp 𝕄 :=
  iprop((bigSep Finset.univ fun ck : Dev nD × Fin 4 => cellInv ER (plan m b) (K ck) (kcell ck))
    ∗ bigSep Finset.univ fun ck : Dev nD × Fin 4 => reached ER (kcell ck) 0)
instance records_persistent (K : Dev nD × Fin 4 → ℕ) : BI.Persistent (records m b K) := by unfold records; infer_instance

theorem rec_inv (K : Dev nD × Fin 4 → ℕ) (ck : Dev nD × Fin 4) : records m b K ⊢ cellInv ER (plan m b) (K ck) (kcell ck) := by
  unfold records; iintro ⟨H, -⟩
  iapply (show (bigSep Finset.univ fun ck : Dev nD × Fin 4 => (cellInv ER (plan m b) (K ck) (kcell ck) : sProp 𝕄)) ⊢ cellInv ER (plan m b) (K ck) (kcell ck)
    from bigSep_elim (Finset.mem_univ ck))
  iexact H
theorem rec_reached (K : Dev nD × Fin 4 → ℕ) (ck : Dev nD × Fin 4) : records m b K ⊢ reached ER (kcell ck) 0 := by
  unfold records; iintro ⟨-, H⟩
  iapply (show (bigSep Finset.univ fun ck : Dev nD × Fin 4 => (reached ER (kcell ck) 0 : sProp 𝕄)) ⊢ reached ER (kcell ck) 0
    from bigSep_elim (Finset.mem_univ ck))
  iexact H

/-- The right to land on each cell `c` may land on: the other device's barrier and incoming cells, its own two. -/
def rights (c : Dev nD) : sProp 𝕄 :=
  iprop(dutyTok ER (kcell (mate c, 0)) 0 () ∗ dutyTok ER (kcell (c, 1)) 0 () ∗ dutyTok ER (kcell (mate c, 2)) 0 () ∗ dutyTok ER (kcell (c, 3)) 0 ())

/-- `c`'s place on each of its own cells. -/
def places (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0)

def ghost (K : Dev nD × Fin 4 → ℕ) (c : Dev nD) : sProp 𝕄 := iprop(records m b K ∗ places c ∗ rights c)

/-- What `c` starts the kernel's body with, besides its staged operands. -/
def start (c : Dev nD) : sProp 𝕄 :=
  iprop((∃ K, ghost m b K c) ∗ cred (tallyAt (kcell (c, 0)) () 1) ∗ cred (tallyAt (kcell (c, 2)) () (sent b)) ∗ levAts L lv ∗ ∃ f, outPts c f)

/-- What it ends with: its result in place and its four counters at zero. -/
def finish (c : Dev nD) : sProp 𝕄 :=
  iprop(outPts c (xStg m (dest b c)) ∗ semVal (kcell (c, 0)) 0 ∗ semVal (kcell (c, 1)) 0 ∗ semVal (kcell (c, 2)) 0 ∗ semVal (kcell (c, 3)) 0)

def dats (_ : Fin 1) (c : Dev nD) : Dat τ (Elt F) Unit ℕ UU ℕ cfg0 c where
  A w := m ((cfg0.win w).arr.view.loc (c : Thread nD τ))
  after w _ := match w with
    | ⟨0, _⟩ => piStg m c
    | ⟨1, _⟩ => xStg m c
  Φ t := match t with
    | ⟨0, _⟩ => start m b c
    | ⟨_ + 1, _⟩ => finish m b c
  q _ := fullShare
  owed t := match t with
    | ⟨0, _⟩ => owed b c
    | ⟨_ + 1, _⟩ => 0

abbrev 𝒱₀ : Variants := Variants.none

end Cert.KernelIdealProof

end
-- ==== Proof.KernelIdealBody.lean ====
/-
The kernel's body, one operation after another, against the plan: the entry notices, then either the transfer across
the row or the local copy, and every semaphore counter back at zero.
-/
module

public import proofs.«01_k».proof.Proof.KernelIdealPlan

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (b : Bool) (K : Dev nD × Fin 4 → ℕ)

/-- A program of the kernel run on device `c`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The buffer a device writes once both of its row have entered. -/
def turn (c : Dev nD) : sProp 𝕄 := bif b then iprop(∃ f, outPts (mate c) f) else iprop(∃ f, outPts c f)

/-- A cell of `c` whose one round is over, or which has none, gives its counter back at zero. -/
theorem close_done (c : Dev nD) (k : Fin 4) : iprop(records m b K ∗ atPos ER (kcell (c, k)) 1 ∅ 0) ⊢ |={Set.univ}=> semVal (kcell (c, k)) 0 := by
  iintro ⟨HR, Hat⟩
  iapply (Rounds.cell_close ER (plan m b) (Set.mem_univ (K (c, k))) (fun h => h) (R := 0 + 1) (duties_over m b (kcell (c, k))))
  isplitl [HR]
  · iapply (rec_inv m b K (c, k)); iexact HR
  · iexact Hat
theorem close_dead (c : Dev nD) {k : Fin 4} (hk : live b k = false) :
    iprop(records m b K ∗ atPos ER (kcell (c, k)) 0 ∅ 0) ⊢ |={Set.univ}=> semVal (kcell (c, k)) 0 := by
  iintro ⟨HR, Hat⟩
  iapply (Rounds.cell_close ER (plan m b) (Set.mem_univ (K (c, k))) (fun h => h) (R := 0) (duties_dead m c hk))
  isplitl [HR]
  · iapply (rec_inv m b K (c, k)); iexact HR
  · iexact Hat

/-- The two devices of a row meet: `c` tells the other it has entered, handing over its result buffer in the exchange,
    and waits to be told. -/
theorem wp_meet (c n : Dev nD) (hn : n = mate c) (k₁ k₂ : ℕ) (h₁ : k₁ = 1) (h₂ : k₂ = 1) {α : Type} {Q : α → sProp 𝕄}
    {k : PUnit → Prog (TpuEff nD τ sig (Elt F) Λ₀ .tc) α} (W : Waits sig Unit) :
    iprop(records m b K ∗ owes (c : Thread nD τ) (owed b c) W ∗ dutyTok ER (kcell (mate c, 0)) 0 () ∗ (∃ f, outPts c f)
        ∗ cred (tallyAt (kcell (c, 0)) () 1) ∗ levAts L lv ∗ atPos ER (kcell (c, 0)) 0 ∅ 0)
      ⊢ iprop(((owes (c : Thread nD τ) (tallyAt (kcell (mate c, 2)) () (sent b)) (insert (csem 0, ()) W) ∗ semVal (kcell (c, 0)) 0 ∗ turn b c) -∗ runs c (k ⟨⟩) Q)
          -∗ runs c (.op (.semSignal (n : Thread nD τ) barS k₁) fun _ => .op (.semWait barS k₂) k) Q) := by
  subst hn h₁ h₂
  iintro ⟨#HR, HO, Ht, Hout, Hc, Hlev, Hat⟩ Hk
  ihave Hs := (show iprop(∃ f, outPts c f) ⊢ (iprop(pay m b (mate c) 0 ∗ (bif b then iprop(emp) else iprop(∃ f, outPts c f))) : sProp 𝕄) from by
    unfold pay
    cases b <;> dsimp only [cond]
    · iintro H; isplitr; · iempintro
      iexact H
    · rw [mate_mate]; iintro H; isplitl; · iexact H
      iempintro) $$ Hout
  icases Hs with ⟨Hpay, Hkeep⟩
  iapply (Rounds.wp_signal 𝒱₀ ER (plan m b) (c : Thread nD τ) none (dst := (mate c : Thread nD τ)) (κ := K (mate c, 0))
      (mem_live m (mate c) (k := 0) rfl) (amount_at m b (mate c) 0 ()) () (tallyAt (kcell (mate c, 2)) () (sent b)) rfl) $$ [HO Ht Hpay]
  · isplitr; · iapply (rec_inv m b K (mate c, 0)); iexact HR
    isplitl [HO]; · iexact HO
    isplitl [Ht]; · iexact Ht
    isplitl [Hpay]
    · iapply (Entails.of_eq (payload_at m b (mate c) 0 ()).symm); iexact Hpay
    · iapply (rec_reached m b K (mate c, 0)); iexact HR
  iintro HO
  iapply (Rounds.wp_wait_rest_token 𝒱₀ ER (plan m b) (c : Thread nD τ) none (κ := K (c, 0))
      (wpE_semWait_eq 𝒱₀ (c : Thread nD τ) none Set.univ) (Set.mem_univ _) () (O := tallyAt (kcell (mate c, 2)) () (sent b)) (W := W) (R := 0) (m := 0) (T := ∅)
      ((Nat.zero_add 1).trans (expect_live m c (k := 0) rfl).symm)) $$ [Hc HO Hlev Hat]
  · isplitr; · iapply (rec_inv m b K (c, 0)); iexact HR
    isplitl [Hc]; · iexact Hc
    isplitl [HO]; · iexact HO
    isplitl [Hlev]; · iapply (mayWait_bar b c); iexact Hlev
    iexact Hat
  iintro ⟨HO, Hat, -, Hpay⟩
  ihave Hp := (Entails.of_eq (rest_live m c (b := b) (k := 0) rfl)) $$ Hpay
  imod (close_done m b K c 0) $$ [Hat] with Hz
  · isplitr; · iexact HR
    iexact Hat
  iapply Hk
  isplitl [HO]; · iexact HO
  isplitl [Hz]; · iexact Hz
  iapply (show (iprop(pay m b c 0 ∗ (bif b then iprop(emp) else iprop(∃ f, outPts c f))) : sProp 𝕄) ⊢ turn b c from by
    unfold pay turn
    cases b <;> dsimp only [cond]
    · iintro ⟨-, H⟩; iexact H
    · iintro ⟨H, -⟩; iexact H)
  isplitl [Hp] <;> iassumption

/-- A wait for the one round of a live transfer cell of `c`, when nothing is owed: what landed on it, and its counter at zero. -/
theorem wp_collect (c : Dev nD) (k : Fin 4) (hk : live b k = true) {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (csem k) (amt k) R)
    {α : Type} {Q : α → sProp 𝕄} {kt : PUnit → Prog (TpuEff nD τ sig (Elt F) Λ₀ .tc) α} (W : Waits sig Unit) :
    iprop(records m b K ∗ cred (tallyAt (kcell (c, k)) () (amt k)) ∗ owes (c : Thread nD τ) 0 W ∗ atPos ER (kcell (c, k)) 0 ∅ 0)
      ⊢ iprop(((owes (c : Thread nD τ) 0 (insert (csem k, ()) W) ∗ semVal (kcell (c, k)) 0 ∗ pay m b c k) -∗ runs c (kt ⟨⟩) Q)
          -∗ runs c (.op w kt) Q) := by
  iintro ⟨#HR, Hc, HO, Hat⟩ Hk
  iapply (Rounds.wp_wait_rest_token 𝒱₀ ER (plan m b) (c : Thread nD τ) none (κ := K (c, k))
      hw (Set.mem_univ _) () (O := 0) (W := W) (R := 0) (m := 0) (T := ∅)
      ((Nat.zero_add _).trans (expect_live m c hk).symm)) $$ [Hc HO Hat]
  · isplitr; · iapply (rec_inv m b K (c, k)); iexact HR
    isplitl [Hc]; · iexact Hc
    isplitl [HO]; · iexact HO
    isplitr; · rw [MayWait_zero]; iempintro
    iexact Hat
  iintro ⟨HO, Hat, -, Hpay⟩
  ihave Hp := (Entails.of_eq (rest_live m c hk)) $$ Hpay
  imod (close_done m b K c k) $$ [Hat] with Hz
  · isplitr; · iexact HR
    iexact Hat
  iapply Hk
  isplitl [HO]; · iexact HO
  isplitl [Hz] <;> iassumption

theorem amt_transfer {k : Fin 4} (h : k ≠ 0) : amt k = N := if_neg h
/-- A block counts the same staged as in the result buffer. -/
theorem credit_stage : (xM : Memref sig .tc .vmem S1x512x512 .f32).view.dmaCredit = N := by decide

/-- A wait for a landing in the result buffer, and the wait for the staged block to have left, both by the amount of a block. -/
theorem wait_out (c : Dev nD) (k : Fin 4) (hk : k ≠ 0) {sem : DmaSem sig} {hsrc : (xM : Memref sig .tc .vmem S1x512x512 .f32).view.WordExact}
    {hdst : (oM : Memref sig .tc .hbm S1x512x512 .f32).view.WordExact} (R : PUnit → sProp 𝕄) (hs : SemLoc.dma sem = csem k := by rfl) :
    wpE (defs₀ (F := F)) 𝒱₀ (c : Thread nD τ) none Set.univ (.waitDma2 sem xM oM hsrc hdst) R = waitSpec (c : Thread nD τ) Set.univ (csem k) (amt k) R := by
  rw [wpE_waitDma2_eq, hs, amt_transfer hk]
theorem wait_stage (c : Dev nD) {sem : DmaSem sig} {hsrc : (oM : Memref sig .tc .hbm S1x512x512 .f32).view.WordExact}
    {hdst : (xM : Memref sig .tc .vmem S1x512x512 .f32).view.WordExact} (R : PUnit → sProp 𝕄) (hs : SemLoc.dma sem = csem 1 := by rfl) :
    wpE (defs₀ (F := F)) 𝒱₀ (c : Thread nD τ) none Set.univ (.waitDma2 sem oM xM hsrc hdst) R = waitSpec (c : Thread nD τ) Set.univ (csem 1) (amt 1) R := by
  rw [wpE_waitDma2_eq, hs, amt_transfer (by decide), credit_stage]

/-- The transfer of `c`'s block into the other device's result buffer. -/
theorem wp_across (c n : Dev nD) (hn : n = mate c) {hsc : (oM : Memref sig (Dev.tc n : Thread nD τ).2.kind .hbm S1x512x512 .f32).view.ref.isScScratch = false}
    {hsrc : (xM : Memref sig .tc .vmem S1x512x512 .f32).view.WordExact} {hdst : (oM : Memref sig .tc .hbm S1x512x512 .f32).view.WordExact}
    {hsem : DmaTarget.Typed .vmem (csem 2) (.remote (Dev.tc n : Thread nD τ) (oM : Memref sig .tc .hbm S1x512x512 .f32) (csem 1) hsc)}
    {α : Type} {Q : α → sProp 𝕄} {k : PUnit → Prog (TpuEff nD τ sig (Elt F) Λ₀ .tc) α} (W : Waits sig Unit) :
    iprop(records m true K ∗ xPts m c ∗ (∃ f, outPts (mate c) f) ∗ owes (c : Thread nD τ) (tallyAt (kcell (mate c, 2)) () (sent true)) W
        ∗ dutyTok ER (kcell (c, 1)) 0 () ∗ dutyTok ER (kcell (mate c, 2)) 0 ())
      ⊢ iprop(((cred (tallyAt (kcell (c, 1)) () N) ∗ owes (c : Thread nD τ) 0 W) -∗ runs c (k ⟨⟩) Q)
          -∗ runs c (.op (.enqueueDma xM (.remote (Dev.tc n : Thread nD τ) oM (csem 1) hsc) (csem 2) hsrc hdst hsem) k) Q) := by
  subst hn
  iintro ⟨#HR, Hx, ⟨%f, Ho⟩, HO, Ht1, Ht2⟩
  iapply (Rounds.wp_send_pointsTo 𝒱₀ ER (plan m true) (c : Thread nD τ) none (κ₁ := K (c, 1)) (κ₂ := K (mate c, 2))
    (r₁ := 0) (r₂ := 0) (d₁ := ()) (d₂ := ()) (fd := f) (fs := xStg m c) (q := fullShare)
    (mem_live m c (k := 1) rfl) (mem_live m (mate c) (k := 2) rfl)
    () () N rfl (amount_at m true c 1 ()) (amount_at m true (mate c) 2 ()) 0 (zero_add _).symm (W := W)
    (by rw [payload_at]; exact BI.Entails.refl _)
    (by rw [payload_at]; unfold pay outPts; rw [write_block (mate c), mate_mate]))
  isplitr; · iapply (rec_inv m true K (c, 1)); iexact HR
  isplitr; · iapply (rec_inv m true K (mate c, 2)); iexact HR
  isplitl [Hx]; · unfold xPts; iexact Hx
  isplitl [Ho]; · unfold outPts; iexact Ho
  isplitl [HO]; · iexact HO
  isplitl [Ht1]; · iexact Ht1
  isplitr; · iapply (rec_reached m true K (c, 1)); iexact HR
  isplitl [Ht2]; · iexact Ht2
  iapply (rec_reached m true K (mate c, 2)); iexact HR

/-- The local copy of `c`'s block into its own result buffer. -/
theorem wp_own (c : Dev nD)
    {hsrc : (xM : Memref sig .tc .vmem S1x512x512 .f32).view.WordExact} {hdst : (oM : Memref sig .tc .hbm S1x512x512 .f32).view.WordExact}
    {hsem : DmaTarget.Typed (nD := nD) (p := (Proc.tc : Proc τ)) .vmem (csem 3) (.here (oM : Memref sig (Proc.tc : Proc τ).kind .hbm S1x512x512 .f32))}
    {α : Type} {Q : α → sProp 𝕄} {k : PUnit → Prog (TpuEff nD τ sig (Elt F) Λ₀ .tc) α} :
    iprop(records m false K ∗ xPts m c ∗ (∃ f, outPts c f) ∗ dutyTok ER (kcell (c, 3)) 0 ())
      ⊢ iprop((cred (tallyAt (kcell (c, 3)) () N) -∗ runs c (k ⟨⟩) Q)
          -∗ runs c (.op (.enqueueDma xM (.here oM) (csem 3) hsrc hdst hsem) k) Q) := by
  iintro ⟨#HR, Hx, ⟨%f, Ho⟩, Ht⟩
  iapply (Rounds.wp_copy_pointsTo 𝒱₀ ER (plan m false) (c : Thread nD τ) none (κ := K (c, 3)) (r := 0) (d := ()) (fd := f) (fs := xStg m c) (q := fullShare)
    (mem_live m c (k := 3) rfl) () N rfl (amount_at m false c 3 ())
    (by rw [payload_at]; unfold pay outPts xPts; rw [write_block c]))
  isplitr; · iapply (rec_inv m false K (c, 3)); iexact HR
  isplitl [Hx]; · unfold xPts; iexact Hx
  isplitl [Ho]; · unfold outPts; iexact Ho
  isplitl [Ht]; · iexact Ht
  iapply (rec_reached m false K (c, 3)); iexact HR

/-- The test for the local copy, on the column a device reads. -/
theorem own_false (c : Dev nD) : Scalar.cmpi .ne (Scalar.extui (Scalar.cmpi .eq (colWord false c) (Scalar.remsi (Scalar.divsi c.word 1#32) 2#32)) : BitVec 32) 0#32 = 1#1 := by
  revert c; decide +kernel
theorem own_true (c : Dev nD) : ¬ Scalar.cmpi .ne (Scalar.extui (Scalar.cmpi .eq (colWord true c) (Scalar.remsi (Scalar.divsi c.word 1#32) 2#32)) : BitVec 32) 0#32 = 1#1 := by
  revert c; decide +kernel

/-- A staging buffer whole at contents `X`. -/
abbrev holds (c : Dev nD) (r : Ref sig .tc) (X : r.ty.Contents (Elt F)) : sProp 𝕄 :=
  iprop(∃ f : Buf (Elt F) ((c : Thread nD τ).loc r), ⌜f = X⌝ ∗ (((c : Thread nD τ).loc r) ↦{fullShare} f))

theorem holds_intro (c : Dev nD) (r : Ref sig .tc) (X : r.ty.Contents (Elt F)) : (((c : Thread nD τ).loc r) ↦{fullShare} X : sProp 𝕄) ⊢ holds c r X := by
  iintro H; iexists X; isplitr; · ipureintro; rfl
  iexact H

omit [FloatOps F] in
theorem owns_eq_holds (c : Dev nD) (r : Ref sig .tc) (X : r.ty.Contents (Elt F)) :
    (owns (Ix := Unit) (Name := ℕ) (U := UU) (Lvl := ℕ) (c : Thread nD τ) (Memref.whole r) fullShare X : sProp 𝕄) = holds c r X := by
  unfold owns; simp only [Memref.view_whole, View.read_whole, View.set_whole]

theorem before_pi (c : Dev nD) (t : Fin cfg0.N) (d) : (dats m b 0 c).before (0 : Fin 2) t d = piStg m c := by
  rw [fin_N0 t]; unfold Dat.before; rw [if_pos (fetch0_0 t0_0)]; rfl
theorem before_x (c : Dev nD) (t : Fin cfg0.N) (d) : (dats m b 0 c).before (1 : Fin 2) t d = xStg m c := by
  rw [fin_N0 t]; unfold Dat.before; rw [if_pos (fetch0_1 t0_0)]; rfl

/-- After the waits: the counters, the result and the staged block, what is owed being nothing. -/
def done (c : Dev nD) : sProp 𝕄 := iprop(finish m b c ∗ (∃ W, owes (c : Thread nD τ) 0 W) ∗ xPts m c)

/-- The body of the kernel on device `c`. -/
abbrev theBody : Prog (TpuEff nD τ sig (Elt F) Λ₀ .tc) PUnit :=
  cc0_body (F := F) (Memref.whole cc0_stg0_0) (Memref.isWhole_whole _) (Memref.whole cc0_stg1_0) (Memref.isWhole_whole _) (Memref.whole main_v1) (Memref.isWhole_whole _)
    cc0_scratch0 cc0_scratch1 cc0_scratch2

set_option maxHeartbeats 400000 in
theorem body_sound (hp : Routed m b) (c : Dev nD) (Kt : PUnit → sProp 𝕄) (W : Waits sig Unit) :
    iprop((ghost m b K c ∗ cred (tallyAt (kcell (c, 0)) () 1) ∗ cred (tallyAt (kcell (c, 2)) () (sent b)) ∗ levAts L lv ∗ (∃ f, outPts c f)
          ∗ owes (c : Thread nD τ) (owed b c) W ∗ (((c : Thread nD τ).loc cc0_stg0_0) ↦{fullShare} piStg m c) ∗ xPts m c)
        ∗ ((done m b c ∗ (((c : Thread nD τ).loc cc0_stg0_0) ↦{fullShare} piStg m c)) -∗ Kt ⟨⟩))
      ⊢ runs c (theBody (F := F)) Kt := by
  unfold theBody runs
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold ghost places rights
  iintro ⟨⟨⟨#HR, ⟨Ha0, Ha1, Ha2, Ha3⟩, Ht0, Ht1, Ht2, Ht3⟩, Hc0, Hc2, Hlev, Hout, HO, Hpi, Hx⟩, Hk⟩
  iapply (wp_load_rect 𝒱₀ (c : Thread nD τ) none Set.univ (m := piM) (r := wordRect c) (Finset.subset_univ _)) $$ Hpi; iintro Hpi
  have hw : (piM.access (wordRect c) : View sig .tc _ _ _).read (Elt F) (piStg m c) (Shape.Idx.first (s := S1) (numel1_S1.symm ▸ Nat.one_pos)) = colWord b c := wordOf_stg m b hp c
  rw [hw]
  simp only [wp_assume_of _ _ _ _ (d := k0_chk1.dec _ _) (chk_col b c)]
  iapply (wp_meet m b K c _ (dev1_mate c) _ _ rfl rfl W) $$ [HO Ht0 Hout Hc0 Hlev Ha0]
  · isplitr; · iexact HR
    isplitl [HO]; · iexact HO
    isplitl [Ht0]; · iexact Ht0
    isplitl [Hout]; · iexact Hout
    isplitl [Hc0]; · iexact Hc0
    isplitl [Hlev] <;> iassumption
  iintro ⟨HO, Hz0, Hturn⟩
  cases b
  · rw [if_pos (own_false c)]
    simp only [dif_neg (cond_false c)]
    ihave HO := (show (owes (c : Thread nD τ) (tallyAt (kcell (mate c, 2)) () (sent false)) (insert (csem 0, ()) W) : sProp 𝕄) ⊢ owes (c : Thread nD τ) 0 (insert (csem 0, ()) W) from
      Entails.of_eq (by rw [show sent false = 0 from rfl, tallyAt_zero])) $$ HO
    ihave Hturn := (show turn false c ⊢ (iprop(∃ f, outPts c f) : sProp 𝕄) from BI.Entails.refl _) $$ Hturn
    iapply (wp_own m K c) $$ [Hx Hturn Ht3]
    · isplitr; · iexact HR
      isplitl [Hx]; · iexact Hx
      isplitl [Hturn] <;> iassumption
    iintro Hc3
    iapply (wp_collect m false K c 3 rfl (fun R => wait_out c 3 (sem := cc0_scratch2.sem) (by decide) R) (insert (csem 0, ()) W)) $$ [Hc3 HO Ha3]
    · isplitr; · iexact HR
      isplitl [Hc3]; · iexact Hc3
      isplitl [HO] <;> iassumption
    iintro ⟨HO, Hz3, Hp⟩
    ihave Hp := (show pay m false c 3 ⊢ (iprop(outPts c (xStg m c) ∗ xPts m c) : sProp 𝕄) from BI.Entails.refl _) $$ Hp
    icases Hp with ⟨Hout, Hx⟩
    imod (close_dead m false K c (k := 1) rfl) $$ [Ha1] with Hz1
    · isplitr; · iexact HR
      iexact Ha1
    imod (close_dead m false K c (k := 2) rfl) $$ [Ha2] with Hz2
    · isplitr; · iexact HR
      iexact Ha2
    rw [wp_ret]; imodintro
    iapply Hk
    isplitr [Hpi]
    · unfold done finish
      isplitr [HO Hx]
      · isplitl [Hout]; · iexact Hout
        isplitl [Hz0]; · iexact Hz0
        isplitl [Hz1]; · iexact Hz1
        isplitl [Hz2] <;> iassumption
      isplitl [HO]
      · iexists _; iexact HO
      iexact Hx
    iexact Hpi
  · rw [if_neg (own_true c)]
    simp only [dif_pos (cond_true c)]
    ihave Hturn := (show turn true c ⊢ (iprop(∃ f, outPts (mate c) f) : sProp 𝕄) from BI.Entails.refl _) $$ Hturn
    iapply (wp_across m K c _ (dev2_mate c _) (insert (csem 0, ()) W)) $$ [Hx Hturn HO Ht1 Ht2]
    · isplitr; · iexact HR
      isplitl [Hx]; · iexact Hx
      isplitl [Hturn]; · iexact Hturn
      isplitl [HO]; · iexact HO
      isplitl [Ht1] <;> iassumption
    iintro ⟨Hc1, HO⟩
    iapply (wp_collect m true K c 1 rfl (fun R => wait_stage c (sem := cc0_scratch0.sem) R) (insert (csem 0, ()) W)) $$ [Hc1 HO Ha1]
    · isplitr; · iexact HR
      isplitl [Hc1]; · iexact Hc1
      isplitl [HO] <;> iassumption
    iintro ⟨HO, Hz1, Hx⟩
    ihave Hx := (show pay m true c 1 ⊢ xPts m c from BI.Entails.refl _) $$ Hx
    iapply (wp_collect m true K c 2 rfl (fun R => wait_out c 2 (sem := cc0_scratch1.sem) (by decide) R) (insert (csem 1, ()) (insert (csem 0, ()) W))) $$ [Hc2 HO Ha2]
    · isplitr; · iexact HR
      isplitl [Hc2]; · iexact Hc2
      isplitl [HO] <;> iassumption
    iintro ⟨HO, Hz2, Hout⟩
    ihave Hout := (show pay m true c 2 ⊢ outPts c (xStg m (mate c)) from BI.Entails.refl _) $$ Hout
    imod (close_dead m true K c (k := 3) rfl) $$ [Ha3] with Hz3
    · isplitr; · iexact HR
      iexact Ha3
    rw [wp_ret]; imodintro
    iapply Hk
    isplitr [Hpi]
    · unfold done finish
      isplitr [HO Hx]
      · isplitl [Hout]; · iexact Hout
        isplitl [Hz0]; · iexact Hz0
        isplitl [Hz1]; · iexact Hz1
        isplitl [Hz2] <;> iassumption
      isplitl [HO]
      · iexists _; iexact HO
      iexact Hx
    iexact Hpi

/-- What the body is given at its one grid point, and what it leaves. -/
def bodyPre (c : Dev nD) : sProp 𝕄 :=
  iprop(start m b c ∗ (dats m b 0 c).owesAt () t0_0.castSucc
    ∗ (∃ d, holds c cc0_stg0_0 ((dats m b 0 c).before (0 : Fin 2) t0_0 d))
    ∗ (∃ d, holds c cc0_stg1_0 ((dats m b 0 c).before (1 : Fin 2) t0_0 d)))
def bodyPost (c : Dev nD) : sProp 𝕄 :=
  iprop(finish m b c ∗ (dats m b 0 c).owesAt () t0_0.succ ∗ holds c cc0_stg0_0 (piStg m c) ∗ holds c cc0_stg1_0 (xStg m c))

theorem body_point (hp : Routed m b) (c : Dev nD) : bodyPre m b c ⊢ runs c (theBody (F := F)) (fun _ => bodyPost m b c) := by
  unfold bodyPre start Dat.owesAt Pipeline.owesWithin
  simp only [before_pi, before_x]
  iintro ⟨⟨⟨%K, Hg⟩, Hc0, Hc2, Hlev, Hout⟩, ⟨%W, %hW, HO⟩, ⟨%d0, %g0, %h0, Hpi⟩, ⟨%d1, %g1, %h1, Hx⟩⟩
  subst h0 h1
  iapply (body_sound m b K hp c (fun _ => bodyPost m b c) W)
  isplitr []
  · isplitl [Hg]; · iexact Hg
    isplitl [Hc0]; · iexact Hc0
    isplitl [Hc2]; · iexact Hc2
    isplitl [Hlev]; · iexact Hlev
    isplitl [Hout]; · iexact Hout
    isplitl [HO]; · iexact HO
    isplitl [Hpi]; · iexact Hpi
    rw [xPts_eq]; iexact Hx
  · unfold done bodyPost Dat.owesAt Pipeline.owesWithin
    rw [xPts_eq]
    iintro ⟨⟨Hf, ⟨%W', HO⟩, Hx⟩, Hpi⟩
    isplitl [Hf]; · iexact Hf
    isplitl [HO]
    · iexists W'
      isplitr; · ipureintro; exact fun _ _ => Or.inl trivial
      iexact HO
    isplitl [Hpi]; · iapply (holds_intro c cc0_stg0_0 (piStg m c)); iexact Hpi
    iapply (holds_intro c cc0_stg1_0 (xStg m c)); iexact Hx

set_option maxRecDepth 4000 in
theorem body_obligation (hp : Routed m b) (c : Dev nD) : BodyObligation (dats (F := F) m b 0 c) (defs₀ (F := F)) 𝒱₀ () Set.univ := fun t => by
  rw [fin_N0 t]
  rw [bigSep_W0, bigSep_W0]
  simp only [owns_eq_holds]
  exact body_point m b hp c

end Cert.KernelIdealProof

end
-- ==== Proof.KernelIdealRun.lean ====
/-
The launch of the exchange: the cells' records made out of the semaphores at zero, the rights dealt across the rows,
the starting credit, and the run of @main from any memory in which every device reads its column of one of the two
permutations.
-/
module

public import proofs.«01_k».proof.Proof.KernelIdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (b : Bool)

/-- The kernel's own semaphores: the three transfer cells. -/
abbrev osem : Fin 3 → SemLoc sig := fun k => csem k.succ

theorem ownSemFacts : Pipeline.OwnSemFacts cfg0.spec osem := by decide
theorem share_eq (c : Dev nD) (w : Fin cfg0.W) : (dats m b 0 c).share w = fullShare := by unfold Dat.share; split <;> rfl

/-! ## Cells and rights -/

/-- All cells, and the one right on each. -/
def allCells : Finset (GSem nD τ sig) := Finset.univ.map ⟨kcell, kcell_injective⟩
def allRights : Finset (GSem nD τ sig × ℕ × Unit) :=
  Finset.univ.map ⟨fun ck : Dev nD × Fin 4 => (kcell ck, 0, ()), fun _ _ h => kcell_injective (congrArg Prod.fst h)⟩

def u₀ : UU := (initOf (Pipeline.cells cfgs cellOf_inj) (Pipeline.launchToks cfgs cellOf_inj), initOf allCells allRights)

omit [FloatOps F] in
theorem four (Φ : Fin 4 → sProp 𝕄) : bigSep Finset.univ Φ = iprop(Φ 0 ∗ Φ 1 ∗ Φ 2 ∗ Φ 3) := bigSep_univ_eq_bigSepL [0, 1, 2, 3] (by decide) (by decide) Φ

/-- Of device `c`'s four cells: their state, its place and the opening of each, and their rights. -/
def states (c : Dev nD) : sProp 𝕄 := bigSep Finset.univ fun k : Fin 4 => roundState ER (plan m b) (kcell (c, k)) 0
def opened (c : Dev nD) : sProp 𝕄 := bigSep Finset.univ fun k : Fin 4 => iprop(atPos ER (kcell (c, k)) 0 ∅ 0 ∗ reached ER (kcell (c, k)) 0)
def minted (c : Dev nD) : sProp 𝕄 := bigSep Finset.univ fun k : Fin 4 => dutyTok ER (kcell (c, k)) 0 ()
def dealt (c : Dev nD) : sProp 𝕄 := iprop(states m b c ∗ opened c ∗ minted c)
/-- Each cell on record under some name. -/
def filed (c : Dev nD) : sProp 𝕄 := bigSep Finset.univ fun k : Fin 4 => iprop(∃ κ : ℕ, cellInv ER (plan m b) κ (kcell (c, k)))
def ready (c : Dev nD) : sProp 𝕄 := iprop(∃ K, ghost m b K c)

omit [FloatOps F] in
theorem over_cells (Φ : GSem nD τ sig → sProp 𝕄) :
    bigSep allCells Φ = bigSep Finset.univ fun c : Dev nD => bigSep Finset.univ fun k : Fin 4 => Φ (kcell (c, k)) := by
  unfold allCells; rw [bigSep_map, bigSep_univ_prod]; rfl
omit [FloatOps F] in
theorem over_rights : bigSep allRights (fun x => (dutyTok ER x.1 x.2.1 x.2.2 : sProp 𝕄)) = bigSep Finset.univ fun c : Dev nD => minted c := by
  unfold allRights; rw [bigSep_map, bigSep_univ_prod]; rfl

theorem fund_cells : BI.own (ER (initOf allCells allRights)) ⊢ (|==> bigSep Finset.univ (dealt m b) : sProp 𝕄) := by
  iintro HX
  imod (Rounds.fund ER (plan m b) allCells allRights) $$ HX with ⟨Hst, Hr, Hat, Htok⟩
  imodintro
  ihave Hst := (Entails.of_eq (over_cells fun g => roundState ER (plan m b) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_rights (F := F))) $$ Htok
  unfold dealt states opened; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0) := by
  rw [Pipeline.ownSems0_eq_of_list c osem [0, 1, 2] (by decide) (by decide)]; rfl
omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem zeros (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, four]
  iintro ⟨Ho, Hb⟩
  isplitl [Hb] <;> iassumption

theorem file_cells (c : Dev nD) :
    iprop(Pipeline.ownSems0 (Ix := Unit) (Name := ℕ) (U := UU) (Lvl := ℕ) (Val := Elt F) (τ := τ) osem c ∗ unscopedSems0 c ∗ dealt m b c)
      ⊢ |={Set.univ}=> iprop(filed m b c ∗ opened c ∗ minted c) := by
  unfold dealt
  iintro ⟨Hos, Hus, Hst, Hrest⟩
  ihave Hv := (zeros (F := F) c) $$ [Hos Hus]
  · isplitl [Hos] <;> iassumption
  imod (show iprop((bigSep Finset.univ fun k : Fin 4 => semVal (kcell (c, k)) 0) ∗ states m b c) ⊢ (|={Set.univ}=> filed m b c : sProp 𝕄) from by
    unfold states filed
    rw [← bigSep_sep']
    exact (bigSep_mono fun k _ => (Rounds.body_intro ER (plan m b) (kcell (c, k))).trans inv_alloc).trans (bigSep_fupd _ _)) $$ [Hv Hst] with Hf
  · isplitl [Hv] <;> iassumption
  imodintro
  isplitl [Hf] <;> iassumption

omit [FloatOps F] in
/-- The rights on the barrier and incoming cells change hands across each row. -/
theorem deal_rights : (bigSep Finset.univ fun c : Dev nD => (minted c : sProp 𝕄)) ⊢ bigSep Finset.univ fun c : Dev nD => rights c := by
  unfold minted rights
  rw [bigSep_congr (s := Finset.univ) (fun (c : Dev nD) _ => four (F := F) fun k => dutyTok ER (kcell (c, k)) 0 ())]
  simp only [bigSep_sep']
  rw [bigSep_univ_equiv rowSwap (fun c : Dev nD => (dutyTok ER (kcell (c, 0)) 0 () : sProp 𝕄)),
    bigSep_univ_equiv rowSwap (fun c : Dev nD => (dutyTok ER (kcell (c, 2)) 0 () : sProp 𝕄))]
  exact BI.Entails.refl _

theorem ready_intro (K : Dev nD × Fin 4 → ℕ) (c : Dev nD) :
    iprop(records m b K ∗ (bigSep Finset.univ fun k : Fin 4 => atPos ER (kcell (c, k)) 0 ∅ 0) ∗ rights c) ⊢ ready m b c := by
  unfold ready ghost places
  rw [four]
  iintro ⟨HR, Ha, Ht⟩
  iexists K
  isplitl [HR]; · iexact HR
  isplitl [Ha] <;> iassumption

omit [FloatOps F] in
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ fun c : Dev nD => iprop(filed m b c ∗ opened c ∗ minted c) : sProp 𝕄) ⊢ bigSep Finset.univ (ready m b) := by
  unfold filed opened
  simp only [bigSep_sep']
  rw [← bigSep_univ_prod (fun ck : Dev nD × Fin 4 => iprop(∃ κ : ℕ, cellInv ER (plan m b) κ (kcell ck))),
    ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (plan m b) κ (kcell ck) : sProp 𝕄))) $$ HI
  icases HK with ⟨%K, #HI⟩
  ihave Htk := (deal_rights (F := F)) $$ Htok
  iapply (spread (R := records m b K) fun c _ => ready_intro m b K c)
  isplitr
  · unfold records; isplitl; · iexact HI
    iexact HR
  rw [bigSep_sep']
  isplitl [Hat]; · iexact Hat
  iexact Htk

theorem glob : (bigSep Finset.univ fun c =>
      iprop(Pipeline.ownSems0 (Ix := Unit) (Name := ℕ) (U := UU) (Lvl := ℕ) (Val := Elt F) (τ := τ) osem c ∗ unscopedSems0 c ∗ dealt m b c) : sProp 𝕄)
    ⊢ |={Set.univ}=> bigSep Finset.univ (ready m b) :=
  ((bigSep_mono fun c _ => file_cells m b c).trans (bigSep_fupd _ _)).trans (BI.fupd_mono (regroup m b))

/-! ## The starting credit -/

/-- What one entry across the row amounts to at a given cell. -/
theorem across_at (d c : Dev nD) (j k : Fin 4) (n : ℕ) :
    (tallyAt (kcell (mate d, j)) () n : CellTallies nD τ sig Unit) (kcell (c, k)) () = if d = mate c then (if j = k then n else 0) else 0 := by
  rw [tallyAt_apply]
  by_cases h : d = mate c
  · subst h; rw [mate_mate, if_pos rfl]
    by_cases hj : j = k
    · subst hj; rw [if_pos ⟨rfl, rfl⟩, if_pos rfl]
    · rw [if_neg (fun hh => hj (congrArg Prod.snd (kcell_injective hh.1)).symm), if_neg hj]
  · rw [if_neg (fun hh => h (mate_eq_iff.mp (congrArg Prod.fst (kcell_injective hh.1)).symm)), if_neg h]

theorem owed_at (d c : Dev nD) (k : Fin 4) :
    owed b d (kcell (c, k)) () = if d = mate c then ((if 2 = k then sent b else 0) + (if 0 = k then 1 else 0)) else 0 := by
  unfold owed
  rw [Pi.add_apply, Finsupp.add_apply, across_at, across_at]
  by_cases h : d = mate c
  · rw [if_pos h, if_pos h, if_pos h]
  · rw [if_neg h, if_neg h, if_neg h]

theorem credit_at (c : Dev nD) (k : Fin 4) :
    tallyOn (kcell (c, k)) (launchCredit (Pipeline.owing (owed b)) 0 (kcell (c, k)))
      = (tallyAt (kcell (c, k)) () ((if 2 = k then sent b else 0) + (if 0 = k then 1 else 0)) : CellTallies nD τ sig Unit) := by
  unfold tallyAt; refine congrArg _ (Finsupp.ext fun u => ?_); cases u
  rw [Pipeline.launchCredit_owing, Finsupp.single_eq_same, Finset.sum_congr rfl fun d _ => owed_at b d c k,
    Finset.sum_ite_eq' Finset.univ (mate c) fun _ => _, if_pos (Finset.mem_univ _)]

omit [FloatOps F] in
theorem creds (c : Dev nD) : (Pipeline.launchCred (owed b) c : sProp 𝕄) ⊢ iprop(cred (tallyAt (kcell (c, 0)) () 1) ∗ cred (tallyAt (kcell (c, 2)) () (sent b))) := by
  have h0 := credit_at b c 0
  have h2 := credit_at b c 2
  rw [if_neg (by decide), if_pos rfl, Nat.zero_add] at h0
  rw [if_pos rfl, if_neg (by decide), Nat.add_zero] at h2
  unfold Pipeline.launchCred
  rw [bigSep_univ_at _ (csem 0), h0]
  refine sep_mono_right ?_
  rw [← h2]
  exact bigSep_elim (Finset.mem_erase.mpr ⟨show csem 2 ≠ csem 0 by decide, Finset.mem_univ _⟩)

/-! ## Entry and exit -/

theorem start_intro (c : Dev nD) :
    iprop(Pipeline.unscopedRestP Pipeline.Prefetch.none cfg0.spec c (fun r => m ((c : Thread nD τ).loc r)) ∗ levAts L lv
        ∗ Pipeline.launchCred (owed b) c ∗ prngReg c (ρ c) ∗ ready m b c)
      ⊢ |={Set.univ}=> iprop(start m b c ∗ emp) := by
  rw [Pipeline.unscopedRestP_none, unscopedRest0_eq]
  iintro ⟨Hout, Hlev, Hcr, -, HG⟩
  ihave Hc := (creds (F := F) b c) $$ Hcr
  icases Hc with ⟨H0, H2⟩
  imodintro
  unfold start ready
  isplitl
  · isplitl [HG]; · iexact HG
    isplitl [H0]; · iexact H0
    isplitl [H2]; · iexact H2
    isplitl [Hlev]; · iexact Hlev
    iexists (m ((c : Thread nD τ).loc main_v1))
    rw [outPts_eq]; iexact Hout
  · iempintro

theorem enter (c : Dev nD) :
    iprop(start m b c ∗ Pipeline.prefHeld Pipeline.Prefetch.none c (fun _ => fullShare.right) (fun k => k.elim0) ∗ Pipeline.scopedRest cfg0.spec c)
      ⊢ (dats m b 0 c).Φ 0 := by
  rw [show (dats m b 0 c).Φ 0 = start m b c from rfl]
  iintro ⟨Hs, -, -⟩
  iexact Hs

/-- What a device leaves the kernel with. -/
def left (c : Dev nD) : sProp 𝕄 := iprop(unscopedSems0 c ∗ outPts c (xStg m (dest b c)))

theorem leave (c : Dev nD) :
    (dats m b 0 c).Φ (Fin.last cfg0.N) ⊢ iprop(left m b c ∗ Pipeline.ownSems0 osem c ∗ Pipeline.scopedRest cfg0.spec c) := by
  rw [show (dats m b 0 c).Φ (Fin.last cfg0.N) = finish m b c from rfl, scopedRest0_eq, ownSems0_eq]
  unfold finish left
  rw [unscopedSems0_eq]
  iintro ⟨Hout, H0, H123⟩
  isplitl [Hout H0]
  · isplitl [H0] <;> iassumption
  isplitl [H123]; · iexact H123
  iempintro

theorem waits (c : Dev nD) : (levAts L lv : sProp 𝕄) ⊢ Pipeline.cellsWaits cfgs (dats m b) () 0 c :=
  Pipeline.cellsWaits_intro cfgs (dats m b) () 0 c fun w s t =>
    mayWait_first b c _ (by fin_cases w <;> fin_cases s <;> decide) (by fin_cases w <;> fin_cases s <;> decide) _ (by
      rcases t with ⟨_ | _, ht⟩
      · exact Or.inl rfl
      · exact Or.inr rfl)

/-- What is read off a device at the end: its barrier at zero and its result. -/
def seen (c : Dev nD) (s : MemSt nD τ sig (Elt F)) : Prop :=
  (∀ sm : SemLoc sig, sm.isScoped .tc = false → s.sem ((c.tc : Thread nD τ), sm) = 0)
    ∧ s.mem ((c : Thread nD τ).loc main_v1) = m ((dest b c : Thread nD τ).loc main_arg0)

theorem see (c : Dev nD) (s' : Phys nD τ sig (Elt F)) :
    iprop(left m b c ∗ emp ∗ SI s') ⊢ |={Set.univ}=> (iprop(⌜seen m b c s'.mem⌝ ∗ SI s') : sProp 𝕄) := by
  unfold left
  rw [outPts_eq, xStg_eq]
  iintro ⟨⟨Hu, Hout⟩, -, HSI⟩
  icombine HSI Hout gives %hv
  imod (Pipeline.unscopedSems0_read (X := unscopedSems0 c) (c := c) fupd_intro s') $$ [Hu HSI] with ⟨%hz, HSI⟩
  · isplitl [Hu] <;> iassumption
  imodintro
  isplitr
  · ipureintro; exact ⟨hz, funext fun i => hv i (Finset.mem_univ _)⟩
  iexact HSI

/-! ## The run -/

/-- What @main leaves: every device's result the block of the device it is routed to, the operands as they were. -/
def Placed (r : PUnit × MemSt nD τ sig (Elt F)) : Prop :=
  (∀ c : Dev nD, r.2.mem ((c : Thread nD τ).loc main_v1) = m ((dest b c : Thread nD τ).loc main_arg0)
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0

theorem kept (c : Dev nD) (w : Fin cfg0.W) : (dats m b 0 c).arrAt w cfg0.N = m ((cfg0.win w).arr.view.loc (c : Thread nD τ)) := by
  fin_cases w
  · exact (dats (F := F) m b 0 c).arrAt_in (0 : Fin 2) rfl _
  · exact (dats (F := F) m b 0 c).arrAt_in (1 : Fin 2) rfl _

set_option maxRecDepth 8000 in
/-- From any memory in which every device reads its column of the permutation `b` stands for, for any float values:
    every weakly fair run of @main ends, with every block placed, the operands unchanged and every counter at zero. -/
theorem run_main (hp : Routed m b) : θ_run defs (onTc (τ := τ) (main (F := F))) ⟨m, fun _ => 0, ρ⟩ (Placed m b) :=
  Pipeline.θ_run_region_owing_glob_pf (fun p => (cfgs p).toPCfg) (fun p => (cfgs p).toPCfg_adm) (dats m b) () cellOf_inj (0 : Fin 1)
    winFacts0.to₀ ownSemFacts (Pipeline.PreFacts.none _) EP defs₀ 𝒱₀ m ρ main
    (hmain := fun _ => rfl)
    (hbody := fun c => (body_obligation m b hp c).loose) (hne := block_pos0) (harr := arr_whole0) (hstage := stage_whole0)
    (hshare := share_eq m b) (hdistinct := winFacts0.arr_inj)
    (O₀ := owed b) (howed₀ := fun _ => rfl) (howedN := fun _ => rfl)
    (L := L) (lv := lv) (hL := L_of_ne) (hwaits := waits m b)
    (G := dealt m b) (G' := ready m b) (u₀ := u₀)
    (hu₀ := by
      unfold u₀
      iintro Hu
      ihave H := (ownU_pair _ _) $$ Hu
      icases H with ⟨HP, HX⟩
      imod (fund_cells m b) $$ HX with HG
      imodintro
      isplitl [HP] <;> iassumption)
    (hglob := glob m b)
    (hA := fun _ _ => rfl) (hpf := fun _ k => k.elim0)
    (X := start m b) (Y := left m b) (Z := fun _ => iprop(emp))
    (hX := start_intro m ρ b) (hin := enter m b) (hout := leave m b)
    (QY := seen m b) (hY := see m b)
    (hQ := fun s h hs =>
      ⟨fun c => ⟨(h c).2.2.2, ((h c).1 (1 : Fin 2)).trans (kept m b c 1), ((h c).1 (0 : Fin 2)).trans (kept m b c 0)⟩,
        sem_eq_zero hs fun c => (h c).2.2.1⟩)

end Cert.KernelIdealProof

end
-- ==== Proof.KernelIdealResult.lean ====
/-
The kernel's and the reference's runs at either permutation, in the claims' terms, and the equality of their results:
a device's block of the reference's result is the block that its `dest` held.
-/
module

public import proofs.«01_k».proof.Proof.Words
public import proofs.«01_k».proof.Proof.KernelIdealRun
public import proofs.«01_k».proof.Proof.Gen.ReferenceIdeal.Run

@[expose] public section

noncomputable section

namespace Cert.KernelIdealProof

open Cert.KernelIdeal Cert.KernelIdeal.Gen Cert.Words Idealize.ShloMosaic Idealize.ShloMosaic.TcCoe Idealize.SL.Sem

variable {F : FTy → Type} [FloatOps F]

/-! ## The kernel -/

/-- The word a device finds at its own column is the column of its `dest`. -/
theorem words_own (b : Bool) (c : Dev nD) : words b (myIdx c) = colWord b c := by
  revert b c; decide

/-- Where every device was given the words of `b`'s permutation, each reads the column of its `dest`. -/
theorem routed (m : (ℓ : Loc nD τ sig) → Buf (Elt F) ℓ) (b : Bool)
    (h : ∀ c : Dev nD, (m ((c : Thread nD τ).loc main_arg1) : IVec S2 32) = words b) : Routed m b :=
  fun c => (congrFun (h c) _).trans (words_own b c)

/-- The kernel's run leaves its arguments as they were, and every semaphore at zero. -/
theorem kernel_quiet (m : (ℓ : Loc nD τ sig) → Buf (Elt F) ℓ) (ρ : Dev nD → PrngReg) (b : Bool)
    (h : ∀ c : Dev nD, (m ((c : Thread nD τ).loc main_arg1) : IVec S2 32) = words b) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun _ hr => ⟨fun c => (hr.1 c).2, hr.2⟩) (run_main m ρ b (routed m b h))

/-! ## The reference -/

/-- The reference's result where the words are those of `b`'s permutation: every block is the block it names. -/
theorem reference_words (m : (ℓ : Loc Cert.ReferenceIdeal.nD Cert.ReferenceIdeal.τ Cert.ReferenceIdeal.sig) → Buf (Elt F) ℓ)
    (ρ : Dev Cert.ReferenceIdeal.nD → PrngReg) (b : Bool)
    (hw : m (((0 : Dev Cert.ReferenceIdeal.nD).tc : Thread Cert.ReferenceIdeal.nD Cert.ReferenceIdeal.τ).loc Cert.ReferenceIdeal.main_arg1) = words b) :
    θ_run (Cert.ReferenceIdeal.defs (F := F)) (onTc (τ := Cert.ReferenceIdeal.τ) (Cert.ReferenceIdeal.main (F := F))) ⟨m, fun _ => 0, ρ⟩ fun r =>
      r.2.mem (((0 : Dev Cert.ReferenceIdeal.nD).tc : Thread Cert.ReferenceIdeal.nD Cert.ReferenceIdeal.τ).loc Cert.ReferenceIdeal.main_v7)
        = (fun j => m (((0 : Dev Cert.ReferenceIdeal.nD).tc : Thread Cert.ReferenceIdeal.nD Cert.ReferenceIdeal.τ).loc Cert.ReferenceIdeal.main_arg0) (source b j))
      ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m (((0 : Dev Cert.ReferenceIdeal.nD).tc : Thread Cert.ReferenceIdeal.nD Cert.ReferenceIdeal.τ).loc Cert.ReferenceIdeal.main_arg1) :=
  (θ_run Cert.ReferenceIdeal.defs _ _).mono (fun r h => ⟨(h 0).1.trans (permuted_words b _ _ hw), (h 0).2⟩)
    (Cert.ReferenceIdeal.Value.run m ρ)

/-- The reference's run leaves its arguments as they were, and every semaphore at zero: it declares none. -/
theorem reference_quiet (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run Cert.ReferenceIdeal.defs _ _).mono (fun r h => ⟨fun c => (h c).2, sem_eq_zero_of_no_sems (by decide) r.2⟩)
    (Cert.ReferenceIdeal.Value.run m ρ)

/-! ## The blocks -/

/-- The first coordinate of the block of device `dest b c` is what the permutation makes of that of device `c`. -/
theorem column_dest (b : Bool) (c : Dev nD) (k : Fin 2) (hk : k.val = Layout.meshLin [2, 2] c.val [1]) :
    Layout.meshLin [2, 2] (dest b c).val [1] = (col b k).val := by
  revert b c k; decide

/-- A device's block of the permuted array is the block of `dest b c` of the array. -/
theorem block_source {α : Type} (b : Bool) (c : Dev nD) (x : Cert.ReferenceIdeal.S2x512x512.Idx → α) :
    Layout.blockN ⟨3, ![1, 512, 512]⟩ ⟨3, ![2, 512, 512]⟩ (Layout.meshBlock [2, 2] ![[1], [], []] (dest b c)) x
      = Layout.blockN ⟨3, ![1, 512, 512]⟩ ⟨3, ![2, 512, 512]⟩ (Layout.meshBlock [2, 2] ![[1], [], []] c) (fun j => x (source b j)) := by
  funext i
  have hi : (i 0).val = 0 := Nat.lt_one_iff.mp (i 0).isLt
  refine congrArg x (funext fun a => Fin.ext ?_)
  fin_cases a
  · refine Eq.trans ?_ (column_dest b c _ ?_)
    · show Layout.meshLin [2, 2] (dest b c).val [1] * 1 + (i 0).val = _
      omega
    · show Layout.meshLin [2, 2] c.val [1] * 1 + (i 0).val = _
      omega
  · rfl
  · rfl

/-! ## The results -/

/-- The kernel's and the reference's results at `b`'s permutation: each device ends with its block of the reference's
    result, for both are the block that `dest b c` held. -/
theorem same_result (b : Bool) (m : (ℓ : Loc nD τ sig) → Buf (Elt F) ℓ)
    (ρ : Dev nD → PrngReg)
    (m' : (ℓ : Loc Cert.ReferenceIdeal.nD Cert.ReferenceIdeal.τ Cert.ReferenceIdeal.sig) → Buf (Elt F) ℓ)
    (ρ' : Dev Cert.ReferenceIdeal.nD → PrngReg)
    (hw : ∀ c : Dev nD,
      (m ((c.tc : Thread nD τ).loc main_arg1) : IVec S2 32) = words b)
    (hagree : ∀ c : Dev nD,
      m ((c.tc : Thread nD τ).loc main_arg0) = Layout.blockN ⟨3, ![1, 512, 512]⟩ ⟨3, ![2, 512, 512]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ (v0 : Buf (Elt F) (((0 : Dev Cert.ReferenceIdeal.nD).tc : Thread Cert.ReferenceIdeal.nD Cert.ReferenceIdeal.τ).loc Cert.ReferenceIdeal.main_v7)),
      θ_run (defs (F := F)) (onTc (τ := τ) (main (F := F))) ⟨m, fun _ => 0, ρ⟩ (fun r => ∀ c : Dev nD,
          r.2.mem ((c.tc : Thread nD τ).loc main_v1) = Layout.blockN ⟨3, ![1, 512, 512]⟩ ⟨3, ![2, 512, 512]⟩ (Layout.meshBlock [2, 2] ![[1], [], []] c) v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := F)) (onTc (τ := Cert.ReferenceIdeal.τ) (Cert.ReferenceIdeal.main (F := F))) ⟨m', fun _ => 0, ρ'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine ⟨fun j => m' (((0 : Dev Cert.ReferenceIdeal.nD).tc : Thread Cert.ReferenceIdeal.nD Cert.ReferenceIdeal.τ).loc Cert.ReferenceIdeal.main_arg0) (source b j),
    (θ_run defs _ _).mono (fun r hr c => ⟨(hr.1 c).1.trans ?_, (hr.1 c).2⟩)
      (run_main m ρ b (routed m b hw)),
    reference_words m' ρ' b ((hagree 0).2.symm.trans (hw 0))⟩
  exact (hagree (dest b c)).1.trans (block_source b c _)

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Reference.Run
public import proofs.«01_k».proof.Proof.Gen.Reference
public import proofs.«01_k».proof.Proof.Gen.Pre_swap_Kernel
public import proofs.«01_k».proof.Proof.Gen.Pre_stay_Kernel
public import proofs.«01_k».proof.Proof.Gen.Pre_swap_ReferenceIdeal
public import proofs.«01_k».proof.Proof.Gen.Pre_stay_ReferenceIdeal
public import proofs.«01_k».proof.Proof.KernelResult
public import proofs.«01_k».proof.Proof.KernelIdealResult
public import Idealize.ShloMosaic.Adequacy
public import Idealize.ShloMosaic.Init

@[expose] public section

noncomputable section

namespace Cert.Proof

open Cert.Words

/-! ## The kernel's frames -/

theorem frame_swap : Cert.quiescent_Kernel := fun m ρ h =>
  Cert.KernelProof.kernel_quiet m ρ true fun c => words_of_swap _ _ (h c)

theorem frame_stay : Cert.quiescent_Kernel_pre_stay_Kernel := fun m ρ h =>
  Cert.KernelProof.kernel_quiet m ρ false fun c => words_of_stay _ _ (h c)

theorem frame_ideal_swap : Cert.quiescent_KernelIdeal := fun m ρ h =>
  Cert.KernelIdealProof.kernel_quiet m ρ true fun c => words_of_swap _ _ (h c)

theorem frame_ideal_stay : Cert.quiescent_KernelIdeal_pre_stay_Kernel := fun m ρ h =>
  Cert.KernelIdealProof.kernel_quiet m ρ false fun c => words_of_stay _ _ (h c)

/-! ## The results -/

theorem algebraic_swap : Cert.algebraic_KernelIdeal_ReferenceIdeal := fun m ρ m' ρ' h hagree =>
  Cert.KernelIdealProof.same_result true m ρ m' ρ' (fun c => words_of_swap _ _ (h c)) hagree

theorem algebraic_stay : Cert.algebraic_KernelIdeal_ReferenceIdeal_pre_stay_Kernel := fun m ρ m' ρ' h hagree =>
  Cert.KernelIdealProof.same_result false m ρ m' ρ' (fun c => words_of_stay _ _ (h c)) hagree

theorem bitexact_swap : Cert.bitexact_Kernel_Reference := fun m ρ m' ρ' h hagree =>
  Cert.KernelProof.same_result true m ρ m' ρ' (fun c => words_of_swap _ _ (h c)) hagree

theorem bitexact_stay : Cert.bitexact_Kernel_Reference_pre_stay_Kernel := fun m ρ m' ρ' h hagree =>
  Cert.KernelProof.same_result false m ρ m' ρ' (fun c => words_of_stay _ _ (h c)) hagree

theorem claim : Cert.Claim :=
  ⟨Cert.Kernel.Gen.facts, Cert.KernelIdeal.Gen.facts, Cert.ReferenceIdeal.Gen.facts, Cert.Reference.Gen.facts,
    Cert.Pre_swap_Kernel.Gen.facts, Cert.Pre_stay_Kernel.Gen.facts, Cert.Pre_swap_ReferenceIdeal.Gen.facts,
    Cert.Pre_stay_ReferenceIdeal.Gen.facts,
    frame_swap, frame_stay, frame_ideal_swap, frame_ideal_stay,
    fun m ρ _ => Cert.KernelIdealProof.reference_quiet m ρ, fun m ρ _ => Cert.KernelIdealProof.reference_quiet m ρ,
    fun m ρ _ => Cert.KernelIdealProof.reference_quiet m ρ, fun m ρ _ => Cert.KernelProof.reference_quiet m ρ,
    fun m ρ _ => Cert.KernelProof.reference_quiet m ρ, fun m ρ _ => Cert.KernelProof.reference_quiet m ρ, trivial,
    algebraic_swap, algebraic_stay, bitexact_swap, bitexact_stay⟩

end Cert.Proof

end
